-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x1024x64 : Shape := ⟨4, ![16, 64, 1024, 64]⟩
abbrev S96x64 : Shape := ⟨2, ![96, 64]⟩
abbrev S16x64x512x128 : Shape := ⟨4, ![16, 64, 512, 128]⟩
abbrev S96x128 : Shape := ⟨2, ![96, 128]⟩
abbrev S8x128 : Shape := ⟨2, ![8, 128]⟩
abbrev S1x8x512x128 : Shape := ⟨4, ![1, 8, 512, 128]⟩
abbrev S8x1x128 : Shape := ⟨3, ![8, 1, 128]⟩
abbrev S1x8x1x128 : Shape := ⟨4, ![1, 8, 1, 128]⟩

abbrev nBuf : Space → Nat
  | .hbm => 6
  | .vmem => 6
  | .smem => 0
  | _ => 0

abbrev bufTy : (tb : Table) → Fin (tcTables nBuf tb) → BufTy
  | .hbm, ⟨0, _⟩ => ⟨S16x64x1024x64, .f32⟩
  | .hbm, ⟨1, _⟩ => ⟨S96x64, .f32⟩
  | .hbm, ⟨2, _⟩ => ⟨S16x64x512x128, .f32⟩
  | .hbm, ⟨3, _⟩ => ⟨S96x128, .f32⟩
  | .hbm, ⟨4, _⟩ => ⟨S16x64x512x128, .f32⟩
  | .hbm, ⟨5, _⟩ => ⟨S16x64x1024x64, .f32⟩
  | .local _ .vmem, ⟨0, _⟩ => ⟨S8x128, .f32⟩
  | .local _ .vmem, ⟨1, _⟩ => ⟨S8x128, .f32⟩
  | .local _ .vmem, ⟨2, _⟩ => ⟨S1x8x512x128, .f32⟩
  | .local _ .vmem, ⟨3, _⟩ => ⟨S1x8x512x128, .f32⟩
  | .local _ .vmem, ⟨4, _⟩ => ⟨S1x8x512x128, .f32⟩
  | .local _ .vmem, ⟨5, _⟩ => ⟨S1x8x512x128, .f32⟩
  | _, _ => ⟨S16x64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S16x64x1024x64 : Shape := ⟨4, ![16, 64, 1024, 64]⟩
abbrev S96x64 : Shape := ⟨2, ![96, 64]⟩
abbrev S64 : Shape := ⟨1, ![64]⟩
abbrev S1x64 : Shape := ⟨2, ![1, 64]⟩
abbrev S_ : Shape := ⟨0, ![]⟩
abbrev S1x64x1 : Shape := ⟨3, ![1, 64, 1]⟩
abbrev S1 : Shape := ⟨1, ![1]⟩
abbrev S1x1x1 : Shape := ⟨3, ![1, 1, 1]⟩
abbrev S1x64x64 : Shape := ⟨3, ![1, 64, 64]⟩
abbrev S1x64x1x64 : Shape := ⟨4, ![1, 64, 1, 64]⟩

abbrev nBuf : Space → Nat
  | .hbm => 30
  | .vmem => 0
  | .smem => 0
  | _ => 0

abbrev bufTy : (tb : Table) → Fin (tcTables nBuf tb) → BufTy
  | .hbm, ⟨0, _⟩ => ⟨S16x64x1024x64, .f32⟩
  | .hbm, ⟨1, _⟩ => ⟨S96x64, .f32⟩
  | .hbm, ⟨2, _⟩ => ⟨S64, .i32⟩
  | .hbm, ⟨3, _⟩ => ⟨S1x64, .i32⟩
  | .hbm, ⟨4, _⟩ => ⟨S_, .i32⟩
  | .hbm, ⟨5, _⟩ => ⟨S1x64, .i32⟩
  | .hbm, ⟨6, _⟩ => ⟨S1x64, .i1⟩
  | .hbm, ⟨7, _⟩ => ⟨S_, .i32⟩
  | .hbm, ⟨8, _⟩ => ⟨S1x64, .i32⟩
  | .hbm, ⟨9, _⟩ => ⟨S1x64, .i32⟩
  | .hbm, ⟨10, _⟩ => ⟨S1x64, .i32⟩
  | .hbm, ⟨11, _⟩ => ⟨S1x64x1, .i32⟩
  | .hbm, ⟨12, _⟩ => ⟨S1, .i32⟩
  | .hbm, ⟨13, _⟩ => ⟨S_, .i32⟩
  | .hbm, ⟨14, _⟩ => ⟨S1x64x1, .i32⟩
  | .hbm, ⟨15, _⟩ => ⟨S1x64x1, .i1⟩
  | .hbm, ⟨16, _⟩ => ⟨S1x1x1, .i32⟩
  | .hbm, ⟨17, _⟩ => ⟨S1x64x1, .i32⟩
  | .hbm, ⟨18, _⟩ => ⟨S1x64x1, .i1⟩
  | .hbm, ⟨19, _⟩ => ⟨S1x64x1, .i1⟩
  | .hbm, ⟨20, _⟩ => ⟨S_, .i1⟩
  | .hbm, ⟨21, _⟩ => ⟨S1x64, .i1⟩
  | .hbm, ⟨22, _⟩ => ⟨S1x64x64, .f32⟩
  | .hbm, ⟨23, _⟩ => ⟨S1x64x64, .i1⟩
  | .hbm, ⟨24, _⟩ => ⟨S_, .f32⟩
  | .hbm, ⟨25, _⟩ => ⟨S1x64x64, .f32⟩
  | .hbm, ⟨26, _⟩ => ⟨S1x64x64, .f32⟩
  | .hbm, ⟨27, _⟩ => ⟨S1x64x1x64, .f32⟩
  | .hbm, ⟨28, _⟩ => ⟨S16x64x1024x64, .f32⟩
  | .hbm, ⟨29, _⟩ => ⟨S16x64x1024x64, .f32⟩
  | _, _ => ⟨S16x64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩

abbrev nD : Nat := 1
abbrev τ : Topo := Topo.v7x

variable {F : FTy → Type} [FloatOps F]
-- ==== Proof.KernelValue.lean ====
/- What the kernel leaves in its result, element by element.

   The rows of 64 channels are packed in pairs into rows of 128 lanes, the table is doubled to the same 128 lanes, the
   region adds the doubled table's row `t` to every packed row of frame `t`, and the result is unpacked again. -/
module

public import proofs.«01_k».proof.Proof.Gen.KernelIdeal.Frame
public import Idealize.ShloMosaic.Lib.Pipeline.ValueKit
public import Idealize.ShloMosaic.Lib.Pointwise

@[expose] public section

noncomputable section

namespace Cert.KernelIdeal.PackedSum

open Cert.KernelIdeal Cert.KernelIdeal.Gen Idealize.ShloMosaic Idealize.ShloMosaic.TcCoe Idealize.SL.Sem

variable (m : (ℓ : Loc nD τ sig) → Buf (Elt Ideal) ℓ) (c : Dev nD)

/-- One block of the result: the packed rows plus the doubled table's row of the same frame. -/
theorem block_apply (x0 : Vec Ideal S8x128 .f32) (x1 : Vec Ideal S1x8x512x128 .f32) (y : S1x8x512x128.Idx) :
    out0_2 x0 x1 y = x1 y + x0 (ix2 (y 1) (y 3)) := by
  idx_vars y
  frame_out [out0_2]
  pointwise [k0_pay1]

/-- The packed rows as the region finds them, and the doubled table. -/
abbrev packed : Vec Ideal S16x64x512x128 .f32 := V m c main_v0
abbrev doubled : Vec Ideal S96x128 .f32 := V m c main_v1

/-- The packed rows are the rows' elements in the same order. -/
theorem packed_eq : packed m c = shapeCast S16x64x512x128 (m ((c.tc : Thread nD τ).loc main_arg0)) shapeCasts_S16x64x1024x64_S16x64x512x128 := by
  show StableHlo.after (List.flatten [hostOps0]) (fun b => m (c, b)) (Proc.devRef .tc main_v0) = _
  simp only [hostOps0, List.flatten_cons, List.flatten_nil, List.append_nil]
  after_results
  rfl

/-- The doubled table is the table beside itself. -/
theorem doubled_eq : doubled m c = concatenate S96x128 1 [⟨S96x64, m ((c.tc : Thread nD τ).loc main_arg1)⟩, ⟨S96x64, m ((c.tc : Thread nD τ).loc main_arg1)⟩]
    concatenates_S96x64_S96x64_S96x128_d1 := by
  show StableHlo.after (List.flatten [hostOps0]) (fun b => m (c, b)) (Proc.devRef .tc main_v1) = _
  simp only [hostOps0, List.flatten_cons, List.flatten_nil, List.append_nil]
  after_results

/-- The array the region writes. -/
def packedSum : Vec Ideal S16x64x512x128 .f32 := fun i => packed m c i + doubled m c (ix2 ⟨(i 1).val, by have := (i 1).isLt; simp at this; omega⟩ (i 3))

/-- The blocks tile the array, so after the last grid point it holds the packed sum everywhere. -/
theorem array_eq : (dats m 0 c).arrAt 2 cfg0.N = packedSum m c := by
  have e2 : ∀ t : Fin grid0.N, win0_2.index t = ![(grid0.coords t 0).val, (grid0.coords t 1).val, 0, 0] := by decide +kernel
  have e1 : ∀ t : Fin grid0.N, win0_1.index t = ![(grid0.coords t 0).val, (grid0.coords t 1).val, 0, 0] := by decide +kernel
  have e0 : ∀ t : Fin grid0.N, win0_0.index t = ![(grid0.coords t 1).val, 0] := by decide +kernel
  refine (dats m 0 c).arrAt_eq_of_covers 2 _ (by decide +kernel) fun t hf y => ?_
  blk_simp
  rw [after0_2, block_apply]
  unfold packedSum
  blk_simp [iblk, e0, e1, e2]
  refine congrArg₂ (· + ·) (congrArg (V m c main_v0) ?_) (congrArg (V m c main_v1) ?_) <;> blk_ext [e0, e1, e2]

/-- The result is the region's array unpacked into rows of 64 channels. -/
theorem unpacked_eq : Pipeline.afterTail₀ cfgs (dats m) 0 (V0 m) [hostOps1] c main_v3
    = shapeCast S16x64x1024x64 (packedSum m c) shapeCasts_S16x64x512x128_S16x64x1024x64 := by
  unfold Pipeline.afterTail₀
  simp only [hostOps1, List.flatten_cons, List.flatten_nil, List.append_nil]
  after_results
  exact congrArg (fun a : Vec Ideal S16x64x512x128 .f32 => shapeCast S16x64x1024x64 a shapeCasts_S16x64x512x128_S16x64x1024x64)
    ((Pipeline.withArrays_arr spec0 winFacts0.arr_inj c (V0 m c) (fun w => (dats m 0 c).arrAt w cfg0.N) 2).trans (array_eq m c))

/-- The two arguments as arrays of values. -/
abbrev rows : Vec Ideal S16x64x1024x64 .f32 := m ((c.tc : Thread nD τ).loc main_arg0)
abbrev table : Vec Ideal S96x64 .f32 := m ((c.tc : Thread nD τ).loc main_arg1)

/-- The kernel's result: each channel plus the table's, in the row of its frame. Lane `64 j + k` of packed row `r` holds
    channel `k` of row `2 r + j`, and the doubled table's lane `64 j + k` holds the table's channel `k`. -/
theorem unpacked_apply (b : Fin 16) (t : Fin 64) (n : Fin 1024) (k : Fin 64) :
    shapeCast S16x64x1024x64 (packedSum m c) shapeCasts_S16x64x512x128_S16x64x1024x64 (ix4 b t n k)
      = rows m c (ix4 b t n k) + table m c (ix2 (t.castLE (by decide)) k) := by
  have hr : n.val / 2 < 512 := by omega
  have hl : n.val % 2 * 64 + k.val < 128 := by omega
  have hflat : (S16x64x512x128.rowMajor (ix4 b t ⟨n.val / 2, hr⟩ ⟨n.val % 2 * 64 + k.val, hl⟩)).val
      = (S16x64x1024x64.rowMajor (ix4 b t n k)).val := by
    rw [Shape.rowMajor_val_four, Shape.rowMajor_val_four]
    show ((b.val * 64 + t.val) * 512 + n.val / 2) * 128 + (n.val % 2 * 64 + k.val) = ((b.val * 64 + t.val) * 1024 + n.val) * 64 + k.val
    omega
  rw [shapeCast_apply _ _ (ix4 b t n k) _ hflat]
  unfold packedSum
  refine congrArg₂ (· + ·) ?_ ?_
  · rw [packed_eq, shapeCast_apply _ _ _ (ix4 b t n k) hflat.symm]
  · rw [doubled_eq]
    pointwise
    split <;> refine congrArg (table m c) ?_ <;> refine congrArg₂ ix2 rfl (Fin.ext ?_) <;> simp only [] <;> omega

end Cert.KernelIdeal.PackedSum

end
-- ==== Proof.RefValue.lean ====
/- What the reference computes, element by element: the row of the table that its take reads is the frame's own row,
   because the positions it takes are 0, 1, …, 63 and the table has 96 rows. -/
module

public import proofs.«01_k».proof.Proof.Gen.ReferenceIdeal.Run
public import Idealize.ShloMosaic.Lib.Pointwise
public import Idealize.ShloMosaic.Lib.ReduceAll

@[expose] public section

noncomputable section

namespace Cert.ReferenceIdeal.RowTake

open Cert.ReferenceIdeal Cert.ReferenceIdeal.Gen Idealize.ShloMosaic Idealize.ShloMosaic.TcCoe Idealize.SL.Sem

/-- The positions the take reads at, as a column of start indices: the frame numbers, wrapped where negative. -/
def positions : IVec S1x64x1 32 :=
  broadcastInDim S1x64x1 ![0, 1] bcast_S1x64_S1x64x1_0_1 (select (cmpi .slt (broadcastInDim S1x64 ![1] bcast_S64_S1x64_1 (iotaInDim S64 32 0)) (broadcastInDim S1x64 ![] bcast_S_S1x64 (constantI S_ 32 0#32))) (addi (broadcastInDim S1x64 ![1] bcast_S64_S1x64_1 (iotaInDim S64 32 0)) (broadcastInDim S1x64 ![] bcast_S_S1x64 (constantI S_ 32 96#32))) (broadcastInDim S1x64 ![1] bcast_S64_S1x64_1 (iotaInDim S64 32 0)))

/-- No frame number is negative, so no position is wrapped. -/
theorem positions_apply (a : Fin 1) (t : Fin 64) (b : Fin 1) : positions (ix3 a t b) = BitVec.ofNat 32 t.val := by
  pointwise [positions]
  revert t
  decide

/-- The bit of every position: at least 0 and at most 95. -/
def inRange : IVec S1x64x1 1 :=
  andi (cmpi .sge positions (broadcastInDim S1x64x1 ![] bcast_S_S1x64x1 (constantI S_ 32 0#32)))
    (cmpi .sle positions (broadcastInDim S1x64x1 ![0, 1, 2] bcast_S1x1x1_S1x64x1_0_1_2 (broadcastInDim S1x1x1 ![2] bcast_S1_S1x1x1_2 (constantI S1 32 95#32))))

/-- Every position is a row of the table. -/
theorem inRange_apply (i : S1x64x1.Idx) : inRange i = 1#1 := by
  idx_vars i
  pointwise [inRange]
  rw [positions_apply]
  revert i1
  decide

/-- The gather reads whole rows: element `(0, t, c)` is the table's element `(t, c)`. -/
theorem gather_apply {α : Type} (x : S96x64.Idx → α) (a : Fin 1) (t k : Fin 64) :
    Host.gather gather_S96x64_S1x64x1_S1x64x64_2_0_n_n_0_2_164 x positions (ix3 a t k) = x (ix2 (t.castLE (by decide)) k) := by
  unfold Host.gather
  refine congrArg x (funext fun b => Fin.ext ?_)
  have hsi : ∀ n, GatherDims.siIdx gather_S96x64_S1x64x1_S1x64x64_2_0_n_n_0_2_164 (ix3 a t k) n = ix3 a t ⟨0, Nat.one_pos⟩ := by
    intro n
    funext b
    apply Fin.ext
    match b with
    | ⟨0, _⟩ => rfl
    | ⟨1, _⟩ => rfl
    | ⟨2, _⟩ => exact congrArg Fin.val (Subsingleton.elim (α := Fin 1) n ⟨0, Nat.one_pos⟩)
  have hp : ((positions (ix3 a t ⟨0, Nat.one_pos⟩)).toInt.toNat) = t.val := by
    rw [positions_apply]
    clear hsi
    revert t
    decide
  match b with
  | ⟨0, _⟩ =>
    show min (positions (GatherDims.siIdx gather_S96x64_S1x64x1_S1x64x64_2_0_n_n_0_2_164 (ix3 a t k) ⟨0, Nat.one_pos⟩)).toInt.toNat 95 + 0 + 0 = t.val
    rw [hsi, hp]
    omega
  | ⟨1, _⟩ =>
    show 0 + 0 + k.val = k.val
    omega

/-- The reference's result: each channel plus the table's, in the row of its frame. -/
def sum (x : Vec Ideal S16x64x1024x64 .f32) (p : Vec Ideal S96x64 .f32) : Vec Ideal S16x64x1024x64 .f32 := fun i =>
  x i + p (ix2 ⟨(i 1).val, by have := (i 1).isLt; simp at this; omega⟩ (i 3))

/-- The reference's composed term is that sum: every position is a row of the table, so nothing is replaced by the fill value. -/
theorem result_eq (x : Vec Ideal S16x64x1024x64 .f32) (p : Vec Ideal S96x64 .f32) :
    (addf x (broadcastInDim S16x64x1024x64 ![0, 1, 2, 3] bcast_S1x64x1x64_S16x64x1024x64_0_1_2_3 (broadcastInDim S1x64x1x64 ![0, 1, 3] bcast_S1x64x64_S1x64x1x64_0_1_3
      (select (broadcastInDim S1x64x64 ![0, 1] bcast_S1x64_S1x64x64_0_1 (Host.reduce IntOp.andi inRange (constantI S_ 1 1#1) reducesTo_S1x64x1_S1x64_d2 h_S_))
        (Host.gather gather_S96x64_S1x64x1_S1x64x64_2_0_n_n_0_2_164 p positions)
        (broadcastInDim S1x64x64 ![] bcast_S_S1x64x64 (constant S_ .f32 0x7FC00000#32))))) : FVec Ideal S16x64x1024x64 .f32) = sum x p := by
  have hr : Host.reduce IntOp.andi inRange (constantI S_ 1 1#1) reducesTo_S1x64x1_S1x64_d2 h_S_ = fun _ => 1#1 :=
    funext fun j => Host.reduce_andi_one _ _ _ _ j rfl inRange_apply
  rw [hr]
  funext i
  idx_vars i
  pointwise [sum]
  rw [gather_apply]
  rfl

end Cert.ReferenceIdeal.RowTake

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

/-- The reference's run ends with every counter at zero and the arguments as they were: it declares no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's unpacked result is the reference's sum. -/
theorem unpacked_eq_sum (m : (ℓ : Loc Cert.KernelIdeal.nD Cert.KernelIdeal.τ Cert.KernelIdeal.sig) → Buf (Elt Ideal) ℓ) (c : Dev Cert.KernelIdeal.nD) :
    shapeCast Cert.KernelIdeal.S16x64x1024x64 (Cert.KernelIdeal.PackedSum.packedSum m c) Cert.KernelIdeal.Facts₀.shapeCasts_S16x64x512x128_S16x64x1024x64
      = Cert.ReferenceIdeal.RowTake.sum (Cert.KernelIdeal.PackedSum.rows m c) (Cert.KernelIdeal.PackedSum.table m c) := by
  funext i
  idx_vars i
  exact Cert.KernelIdeal.PackedSum.unpacked_apply m c _ _ _ _

/-- Both programs end with the sum of the rows and the table's rows of their frames. -/
theorem same_sum : Cert.algebraic_KernelIdeal_ReferenceIdeal := by
  intro m g m' g' _ hagree
  refine ⟨fun c => Cert.ReferenceIdeal.RowTake.sum (Cert.KernelIdeal.PackedSum.rows m c) (Cert.KernelIdeal.PackedSum.table m c), ?_, ?_⟩
  · refine (θ_run Cert.KernelIdeal.defs _ _).mono (fun r h c => ⟨?_, ?_, ?_⟩) (Cert.KernelIdeal.Gen.run_main m g)
    · exact ((h c).2 Cert.KernelIdeal.main_v3 (Pipeline.mem_restRefs_of _ (by decide) (by decide))).trans
        ((Cert.KernelIdeal.PackedSum.unpacked_eq m c).trans (unpacked_eq_sum m c))
    · exact ((h c).2 Cert.KernelIdeal.main_arg0 (Pipeline.mem_restRefs_of _ (by decide) (by decide))).trans (Cert.KernelIdeal.Gen.W_main_arg0 m _ c)
    · exact ((h c).2 Cert.KernelIdeal.main_arg1 (Pipeline.mem_restRefs_of _ (by decide) (by decide))).trans (Cert.KernelIdeal.Gen.W_main_arg1 m _ c)
  · refine (θ_run Cert.ReferenceIdeal.defs _ _).mono (fun r h c => ⟨?_, (h c).2⟩) (Cert.ReferenceIdeal.Value.run (F := Ideal) m' g')
    refine (h c).1.trans ((Cert.ReferenceIdeal.RowTake.result_eq _ _).trans ?_)
    exact congrArg₂ Cert.ReferenceIdeal.RowTake.sum (hagree c).1 (hagree c).2

/-- All five claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, same_sum⟩

end Cert.Proof

end
